-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x14336 : Shape := ⟨3, ![8, 2048, 14336]⟩
abbrev S8x2048x1 : Shape := ⟨3, ![8, 2048, 1]⟩
abbrev S14336x4096 : Shape := ⟨2, ![14336, 4096]⟩
abbrev S4096 : Shape := ⟨1, ![4096]⟩
abbrev S8x2048x4096 : Shape := ⟨3, ![8, 2048, 4096]⟩
abbrev S16384x14336 : Shape := ⟨2, ![16384, 14336]⟩
abbrev S16384x1 : Shape := ⟨2, ![16384, 1]⟩
abbrev S1x4096 : Shape := ⟨2, ![1, 4096]⟩
abbrev S16384x4096 : Shape := ⟨2, ![16384, 4096]⟩
abbrev S1024x14336 : Shape := ⟨2, ![1024, 14336]⟩
abbrev S1024x1 : Shape := ⟨2, ![1024, 1]⟩
abbrev S14336x512 : Shape := ⟨2, ![14336, 512]⟩
abbrev S1x512 : Shape := ⟨2, ![1, 512]⟩
abbrev S1024x512 : Shape := ⟨2, ![1024, 512]⟩

abbrev nBuf : Space → Nat
  | .hbm => 11
  | .vmem => 12
  | .smem => 0
  | _ => 0

abbrev bufTy : (tb : Table) → Fin (tcTables nBuf tb) → BufTy
  | .hbm, ⟨0, _⟩ => ⟨S8x2048x14336, .fp8e4m3⟩
  | .hbm, ⟨1, _⟩ => ⟨S8x2048x1, .f32⟩
  | .hbm, ⟨2, _⟩ => ⟨S14336x4096, .fp8e4m3⟩
  | .hbm, ⟨3, _⟩ => ⟨S4096, .f32⟩
  | .hbm, ⟨4, _⟩ => ⟨S8x2048x4096, .bf16⟩
  | .hbm, ⟨5, _⟩ => ⟨S16384x14336, .fp8e4m3⟩
  | .hbm, ⟨6, _⟩ => ⟨S16384x1, .f32⟩
  | .hbm, ⟨7, _⟩ => ⟨S1x4096, .f32⟩
  | .hbm, ⟨8, _⟩ => ⟨S16384x4096, .bf16⟩
  | .hbm, ⟨9, _⟩ => ⟨S16384x4096, .bf16⟩
  | .hbm, ⟨10, _⟩ => ⟨S8x2048x4096, .bf16⟩
  | .local _ .vmem, ⟨0, _⟩ => ⟨S1024x14336, .fp8e4m3⟩
  | .local _ .vmem, ⟨1, _⟩ => ⟨S1024x14336, .fp8e4m3⟩
  | .local _ .vmem, ⟨2, _⟩ => ⟨S1024x1, .f32⟩
  | .local _ .vmem, ⟨3, _⟩ => ⟨S1024x1, .f32⟩
  | .local _ .vmem, ⟨4, _⟩ => ⟨S14336x512, .fp8e4m3⟩
  | .local _ .vmem, ⟨5, _⟩ => ⟨S14336x512, .fp8e4m3⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S8x2048x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x14336 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S14336x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x2048x14336 : Shape := ⟨3, ![8, 2048, 14336]⟩
abbrev S8x2048x1 : Shape := ⟨3, ![8, 2048, 1]⟩
abbrev S14336x4096 : Shape := ⟨2, ![14336, 4096]⟩
abbrev S4096 : Shape := ⟨1, ![4096]⟩
abbrev S8x2048x4096 : Shape := ⟨3, ![8, 2048, 4096]⟩
abbrev S1x1x4096 : Shape := ⟨3, ![1, 1, 4096]⟩

abbrev nBuf : Space → Nat
  | .hbm => 6
  | .vmem => 6
  | .smem => 0
  | _ => 0

abbrev bufTy : (tb : Table) → Fin (tcTables nBuf tb) → BufTy
  | .hbm, ⟨0, _⟩ => ⟨S8x2048x14336, .fp8e4m3⟩
  | .hbm, ⟨1, _⟩ => ⟨S8x2048x1, .f32⟩
  | .hbm, ⟨2, _⟩ => ⟨S14336x4096, .fp8e4m3⟩
  | .hbm, ⟨3, _⟩ => ⟨S4096, .f32⟩
  | .hbm, ⟨4, _⟩ => ⟨S8x2048x4096, .bf16⟩
  | .hbm, ⟨5, _⟩ => ⟨S8x2048x4096, .bf16⟩
  | .local _ .vmem, ⟨0, _⟩ => ⟨S8x2048x14336, .fp8e4m3⟩
  | .local _ .vmem, ⟨1, _⟩ => ⟨S8x2048x1, .f32⟩
  | .local _ .vmem, ⟨2, _⟩ => ⟨S14336x4096, .fp8e4m3⟩
  | .local _ .vmem, ⟨3, _⟩ => ⟨S4096, .f32⟩
  | .local _ .vmem, ⟨4, _⟩ => ⟨S8x2048x4096, .bf16⟩
  | .local _ .vmem, ⟨5, _⟩ => ⟨S8x2048x4096, .bf16⟩
  | _, _ => ⟨S8x2048x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x2048x14336 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Formula.lean ====
/-
  The scaled product with a residual as one formula at an index, and what the two kernel bodies compute, as that formula.
-/
module

public import proofs.«01_k».proof.Proof.Gen.KernelIdeal.Skeleton
public import proofs.«01_k».proof.Proof.Gen.ReferenceIdeal.Skeleton
public import Idealize.ShloMosaic.Lib.Pointwise

@[expose] public section

noncomputable section

namespace Cert.Proof.Formula

open Idealize.ShloMosaic

/-- What one point of the grid computes of its blocks, at row `a` and column `b` of the block: the row of `x` times the
    column of `w`, times the row's scale, times the column's scale, plus the residual. -/
theorem kernel_pay (x : Cert.KernelIdeal.S1024x14336.Idx → EReal) (w : Cert.KernelIdeal.S14336x512.Idx → EReal)
    (xs : Cert.KernelIdeal.S1024x1.Idx → EReal) (ws : Cert.KernelIdeal.S1x512.Idx → EReal)
    (r : Cert.KernelIdeal.S1024x512.Idx → EReal) (a : Fin 1024) (b : Fin 512) :
    Cert.KernelIdeal.Gen.k0_pay1 (F := Ideal) x w xs ws r (ix2 a b)
      = (∑ k : Fin 14336, x (ix2 a k) * w (ix2 k b)) * xs (ix2 a 0) * ws (ix2 0 b) + r (ix2 a b) := by
  pointwise [Cert.KernelIdeal.Gen.k0_pay1]

/-- What the reference computes of the whole arrays, at batch `p`, position `q` and column `b`. -/
theorem reference_pay (x : Cert.ReferenceIdeal.S8x2048x14336.Idx → EReal)
    (w : Cert.ReferenceIdeal.S14336x4096.Idx → EReal)
    (xs : Cert.ReferenceIdeal.S8x2048x1.Idx → EReal) (ws : Cert.ReferenceIdeal.S4096.Idx → EReal)
    (r : Cert.ReferenceIdeal.S8x2048x4096.Idx → EReal) (p : Fin 8) (q : Fin 2048) (b : Fin 4096) :
    Cert.ReferenceIdeal.Gen.k0_pay1 (F := Ideal) x w xs ws r (ix3 p q b)
      = (∑ k : Fin 14336, x (ix3 p q k) * w (ix2 k b)) * xs (ix3 p q 0) * ws (ix1 b) + r (ix3 p q b) := by
  pointwise [Cert.ReferenceIdeal.Gen.k0_pay1]

end Cert.Proof.Formula

end
-- ==== Proof.Blocks.lean ====
/-
  The array that the tiled kernel leaves, before the host's last reshape: every element is the formula of its row and column.
-/
module

public import proofs.«01_k».proof.Proof.Formula
public import proofs.«01_k».proof.Proof.Gen.KernelIdeal.Frame
public import Idealize.ShloMosaic.Lib.Pipeline.ValueKit

@[expose] public section

noncomputable section

namespace Cert.Proof.Blocks

open Idealize.ShloMosaic Idealize.ShloMosaic.TcCoe Idealize.SL.Sem
open Cert.KernelIdeal Cert.KernelIdeal.Gen

variable (m : (ℓ : Loc nD τ sig) → Buf (Elt Ideal) ℓ)

/-- The formula at row `a` and column `b` of flattened arrays: the row of `x` times the column of `w`, times the row's
    scale, times the column's scale, plus the residual. -/
def flat (x : S16384x14336.Idx → EReal) (xs : S16384x1.Idx → EReal) (w : S14336x4096.Idx → EReal) (ws : S1x4096.Idx → EReal)
    (r : S16384x4096.Idx → EReal) (a : Fin 16384) (b : Fin 4096) : EReal :=
  (∑ k : Fin 14336, x (ix2 a k) * w (ix2 k b)) * xs (ix2 a 0) * ws (ix2 0 b) + r (ix2 a b)

/-- The formula over the five arrays as the grid finds them. -/
abbrev result (c : Dev nD) : S16384x4096.Idx → EReal := fun i =>
  flat (V m c main_v0) (V m c main_v1) (V m c main_arg2) (V m c main_v2) (V m c main_v3) (i 0) (i 1)

/-- The block each window is on at point `t`: row block `t / 8`, column block `t % 8`. -/
theorem index_eq : ∀ t : Fin cfg0.N,
    win0_0.index t = ![t.val / 8, 0] ∧ win0_1.index t = ![t.val / 8, 0] ∧ win0_2.index t = ![0, t.val % 8]
    ∧ win0_3.index t = ![0, t.val % 8] ∧ win0_4.index t = ![t.val / 8, t.val % 8] ∧ win0_5.index t = ![t.val / 8, t.val % 8] :=
  (by decide +kernel : ∀ t : Fin grid0.N, _)

/-- The body's one store leaves the computed block, and its loads read whole blocks. -/
theorem out_eq (x0 : Vec Ideal S1024x14336 .fp8e4m3) (x1 : Vec Ideal S1024x1 .f32) (x2 : Vec Ideal S14336x512 .fp8e4m3)
    (x3 : Vec Ideal S1x512 .f32) (x4 : Vec Ideal S1024x512 .bf16) : out0_5 x0 x1 x2 x3 x4 = k0_pay1 x0 x2 x1 x3 x4 := by
  have hz : (![0, 0] : Fin 2 → Nat) = fun _ => 0 := funext fun a => by fin_cases a <;> rfl
  unfold out0_5
  rw [View.canon_unit_zero (S := S1024x512) hz, View.ld_unit_zero (S := S1024x14336) hz, View.ld_unit_zero (S := S14336x512) hz,
    View.ld_unit_zero (S := S1024x1) hz, View.ld_unit_zero (S := S1x512) hz, View.ld_unit_zero (S := S1024x512) hz]

/-- The row of the flattened arrays that row `a` of point `t`'s block is. -/
def row (t : Fin cfg0.N) (a : Fin 1024) : Fin 16384 :=
  ⟨t.val / 8 * 1024 + a.val, by have h : t.val < 128 := t.isLt; have := a.isLt; omega⟩

/-- The column of the result that column `b` of point `t`'s block is. -/
def col (t : Fin cfg0.N) (b : Fin 512) : Fin 4096 :=
  ⟨t.val % 8 * 512 + b.val, by have := b.isLt; omega⟩

/-- Row `a` of the block of `x` at point `t`. -/
theorem block_x (c : Dev nD) (t : Fin cfg0.N) (a : Fin 1024) (k : Fin 14336) :
    iblk m c 0 t (ix2 a k) = V m c main_v0 (ix2 (row t a) k) := by
  obtain ⟨e, -⟩ := index_eq t
  blk_ext [iblk, e, row]

/-- The scale of row `a` of the block at point `t`. -/
theorem block_xs (c : Dev nD) (t : Fin cfg0.N) (a : Fin 1024) :
    iblk m c 1 t (ix2 a (0 : Fin 1)) = V m c main_v1 (ix2 (row t a) (0 : Fin 1)) := by
  obtain ⟨-, e, -⟩ := index_eq t
  blk_ext [iblk, e, row]

/-- Column `b` of the block of `w` at point `t`. -/
theorem block_w (c : Dev nD) (t : Fin cfg0.N) (k : Fin 14336) (b : Fin 512) :
    iblk m c 2 t (ix2 k b) = V m c main_arg2 (ix2 k (col t b)) := by
  obtain ⟨-, -, e, -⟩ := index_eq t
  blk_ext [iblk, e, col]

/-- The scale of column `b` of the block at point `t`. -/
theorem block_ws (c : Dev nD) (t : Fin cfg0.N) (b : Fin 512) :
    iblk m c 3 t (ix2 (0 : Fin 1) b) = V m c main_v2 (ix2 (0 : Fin 1) (col t b)) := by
  obtain ⟨-, -, -, e, -⟩ := index_eq t
  blk_ext [iblk, e, col]

/-- The residual's element of the block at point `t`. -/
theorem block_r (c : Dev nD) (t : Fin cfg0.N) (a : Fin 1024) (b : Fin 512) :
    iblk m c 4 t (ix2 a b) = V m c main_v3 (ix2 (row t a) (col t b)) := by
  obtain ⟨-, -, -, -, e, -⟩ := index_eq t
  blk_ext [iblk, e, row, col]

/-- The result's element of the block at point `t` lies at that row and column of the result array. -/
theorem emb_eq (t : Fin cfg0.N) (a : Fin 1024) (b : Fin 512) :
    ((cfg0.win 5).blk t).view.emb (ix2 a b) = ix2 (row t a) (col t b) := by
  obtain ⟨-, -, -, -, -, e⟩ := index_eq t
  blk_ext [e, row, col]

/-- What the body computes at an element of its blocks is the formula at an element of the whole arrays, if the blocks'
    row, column and scales are the arrays'. -/
theorem pay_eq_flat {x : S1024x14336.Idx → EReal} {w : S14336x512.Idx → EReal} {xs : S1024x1.Idx → EReal}
    {ws : S1x512.Idx → EReal} {r : S1024x512.Idx → EReal}
    {X : S16384x14336.Idx → EReal} {XS : S16384x1.Idx → EReal} {W : S14336x4096.Idx → EReal} {WS : S1x4096.Idx → EReal}
    {R : S16384x4096.Idx → EReal} {a : Fin 1024} {b : Fin 512} {a' : Fin 16384} {b' : Fin 4096}
    (hx : ∀ k : Fin 14336, x (ix2 a k) = X (ix2 a' k)) (hw : ∀ k : Fin 14336, w (ix2 k b) = W (ix2 k b'))
    (hxs : xs (ix2 a 0) = XS (ix2 a' 0)) (hws : ws (ix2 0 b) = WS (ix2 0 b')) (hr : r (ix2 a b) = R (ix2 a' b')) :
    k0_pay1 (F := Ideal) x w xs ws r (ix2 a b) = flat X XS W WS R a' b' := by
  rw [Formula.kernel_pay, flat, hxs, hws, hr]
  simp only [hx, hw]

/-- What point `t` computes of its blocks is the formula at the element's place in the whole arrays. -/
theorem point (c : Dev nD) (t : Fin cfg0.N) (a : Fin 1024) (b : Fin 512) :
    k0_pay1 (F := Ideal) (iblk m c 0 t) (iblk m c 2 t) (iblk m c 1 t) (iblk m c 3 t) (iblk m c 4 t) (ix2 a b)
      = flat (V m c main_v0) (V m c main_v1) (V m c main_arg2) (V m c main_v2) (V m c main_v3) (row t a) (col t b) :=
  pay_eq_flat (fun k => block_x m c t a k) (fun k => block_w m c t k b) (block_xs m c t a) (block_ws m c t b)
    (block_r m c t a b)

/-- The array that the grid leaves holds the formula everywhere. -/
theorem final (c : Dev nD) : (dats m 0 c).arrAt 5 cfg0.N = result m c := by
  refine (dats m 0 c).arrAt_eq_of_covers 5 _ (by decide +kernel) fun t hf y => ?_
  blk_simp
  rw [after0_5, out_eq]
  obtain ⟨a, b, rfl⟩ : ∃ (a : Fin 1024) (b : Fin 512), y = ix2 a b := ⟨y 0, y 1, (ix2_eta y).symm⟩
  refine (point m c t a b).trans ?_
  show _ = result m c (((cfg0.win 5).blk t).view.emb (ix2 a b))
  rw [emb_eq]
  rfl

end Cert.Proof.Blocks

end
-- ==== Proof.KernelRun.lean ====
/-
  The kernel's run: its result is the formula over its five arguments, and the arguments end unchanged.
-/
module

public import proofs.«01_k».proof.Proof.Blocks

@[expose] public section

noncomputable section

namespace Cert.Proof.KernelRun

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The grid finds `x` with its first two axes flattened. -/
theorem entry_x (c : Dev nD) :
    V m c main_v0 = shapeCast S16384x14336 (m ((c : Thread nD τ).loc main_arg0)) shapeCasts_S8x2048x14336_S16384x14336 := by
  show StableHlo.after (List.flatten [hostOps0]) _ (Proc.devRef .tc main_v0) = _
  simp only [List.flatten_cons, List.flatten_nil, List.append_nil]
  after_results
  rfl

/-- The grid finds the rows' scales with their first two axes flattened. -/
theorem entry_xs (c : Dev nD) :
    V m c main_v1 = shapeCast S16384x1 (m ((c : Thread nD τ).loc main_arg1)) shapeCasts_S8x2048x1_S16384x1 := by
  show StableHlo.after (List.flatten [hostOps0]) _ (Proc.devRef .tc main_v1) = _
  simp only [List.flatten_cons, List.flatten_nil, List.append_nil]
  after_results
  rfl

/-- The grid finds the columns' scales as one row. -/
theorem entry_ws (c : Dev nD) :
    V m c main_v2 = shapeCast S1x4096 (m ((c : Thread nD τ).loc main_arg3)) shapeCasts_S4096_S1x4096 := by
  show StableHlo.after (List.flatten [hostOps0]) _ (Proc.devRef .tc main_v2) = _
  simp only [List.flatten_cons, List.flatten_nil, List.append_nil]
  after_results
  rfl

/-- The grid finds the residual with its first two axes flattened. -/
theorem entry_r (c : Dev nD) :
    V m c main_v3 = shapeCast S16384x4096 (m ((c : Thread nD τ).loc main_arg4)) shapeCasts_S8x2048x4096_S16384x4096 := by
  show StableHlo.after (List.flatten [hostOps0]) _ (Proc.devRef .tc main_v3) = _
  simp only [List.flatten_cons, List.flatten_nil, List.append_nil]
  after_results
  rfl

/-- The host's last reshape leaves the grid's array with its first axis split again. -/
theorem exit_eq (c : Dev nD) :
    Pipeline.afterTail₀ cfgs (dats m) 0 (V0 m) [hostOps1] c main_v5
      = shapeCast S8x2048x4096 (Blocks.result m c) shapeCasts_S16384x4096_S8x2048x4096 := by
  unfold Pipeline.afterTail₀
  simp only [List.flatten_cons, List.flatten_nil, List.append_nil]
  after_results
  have h := Pipeline.withArrays_arr (cfgs 0).spec launch0.win.arr_inj c (V0 m c) (fun w => (dats m 0 c).arrAt w (cfgs 0).N) 5
  exact congrArg (fun y => shapeCast S8x2048x4096 y shapeCasts_S16384x4096_S8x2048x4096) (h.trans (Blocks.final m c))

/-- The run: the result is the formula's array with its first axis split, and the arguments end unchanged. -/
theorem run : θ_run (defs (F := Ideal)) (onTc (τ := τ) (main (F := Ideal))) ⟨m, fun _ => 0, ρ⟩ (fun r => ∀ c : Dev nD,
    r.2.mem ((c.tc : Thread nD τ).loc main_v5)
      = shapeCast S8x2048x4096 (Blocks.result m c) shapeCasts_S16384x4096_S8x2048x4096
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun r h c => ⟨((h.1 c).2 main_v5 (by decide)).trans (exit_eq m c), h.2 c⟩)
    (θ_run_and (run_main m ρ) (unchanged m ρ))

end Cert.Proof.KernelRun

end
-- ==== Proof.ReferenceRun.lean ====
/-
  The reference's run: its result is its one payload of its five arguments, and the arguments end unchanged.
-/
module

public import proofs.«01_k».proof.Proof.Gen.ReferenceIdeal.Frame
public import Idealize.ShloMosaic.Lib.Pipeline.ValueKit

@[expose] public section

noncomputable section

namespace Cert.Proof.ReferenceRun

open Idealize.ShloMosaic Idealize.ShloMosaic.TcCoe Idealize.SL.Sem
open Cert.ReferenceIdeal Cert.ReferenceIdeal.Gen

variable (m : (ℓ : Loc nD τ sig) → Buf (Elt Ideal) ℓ) (ρ : Dev nD → PrngReg)

/-- The one grid point. -/
def t₀ : Fin cfg0.N := ⟨0, by decide⟩

/-- The result array after the run, read through its one block, is what the one point's write-back wrote. -/
theorem final_out (c : Dev nD) :
    ((cfg0.win 5).blk t₀).view.read (Elt Ideal) ((dats m 0 c).arrAt 5 cfg0.N) = (dats m 0 c).flushed 5 t₀ := by
  rw [show cfg0.N = (t₀ : Fin cfg0.N).val + 1 from rfl, (dats m 0 c).arrAt_succ 5 t₀]
  rw [show (cfg0.win 5).flush t₀ = true from by decide, if_pos rfl]
  exact View.read_write_univ _ _

/-- The loads read whole buffers and the one store leaves its payload. -/
theorem out_eq (x : Vec Ideal S8x2048x14336 .fp8e4m3) (xs : Vec Ideal S8x2048x1 .f32) (w : Vec Ideal S14336x4096 .fp8e4m3)
    (ws : Vec Ideal S4096 .f32) (r : Vec Ideal S8x2048x4096 .bf16) : out0_5 x xs w ws r = k0_pay1 x w xs ws r := by
  have h3 : (![0, 0, 0] : Fin 3 → Nat) = fun _ => 0 := funext fun a => by fin_cases a <;> rfl
  have h2 : (![0, 0] : Fin 2 → Nat) = fun _ => 0 := funext fun a => by fin_cases a <;> rfl
  have h1 : (![0] : Fin 1 → Nat) = fun _ => 0 := funext fun a => by fin_cases a <;> rfl
  unfold out0_5
  rw [View.canon_unit_zero (S := S8x2048x4096) h3, View.ld_unit_zero (S := S8x2048x14336) h3,
    View.ld_unit_zero (S := S14336x4096) h2, View.ld_unit_zero (S := S8x2048x1) h3, View.ld_unit_zero (S := S4096) h1,
    View.ld_unit_zero (S := S8x2048x4096) h3]

/-- The block of `x` at the one point is all of it. -/
theorem block_x (c : Dev nD) : iblk m c 0 t₀ = m ((c : Thread nD τ).loc main_arg0) :=
  Memref.read_access_unit_zero (Elt Ideal) main_arg0 (funext fun a => by fin_cases a <;> decide) (fun a => by fin_cases a <;> decide) _

/-- The block of the rows' scales at the one point is all of them. -/
theorem block_xs (c : Dev nD) : iblk m c 1 t₀ = m ((c : Thread nD τ).loc main_arg1) :=
  Memref.read_access_unit_zero (Elt Ideal) main_arg1 (funext fun a => by fin_cases a <;> decide) (fun a => by fin_cases a <;> decide) _

/-- The block of `w` at the one point is all of it. -/
theorem block_w (c : Dev nD) : iblk m c 2 t₀ = m ((c : Thread nD τ).loc main_arg2) :=
  Memref.read_access_unit_zero (Elt Ideal) main_arg2 (funext fun a => by fin_cases a <;> decide) (fun a => by fin_cases a <;> decide) _

/-- The block of the columns' scales at the one point is all of them. -/
theorem block_ws (c : Dev nD) : iblk m c 3 t₀ = m ((c : Thread nD τ).loc main_arg3) :=
  Memref.read_access_unit_zero (Elt Ideal) main_arg3 (funext fun a => by fin_cases a <;> decide) (fun a => by fin_cases a <;> decide) _

/-- The block of the residual at the one point is all of it. -/
theorem block_r (c : Dev nD) : iblk m c 4 t₀ = m ((c : Thread nD τ).loc main_arg4) :=
  Memref.read_access_unit_zero (Elt Ideal) main_arg4 (funext fun a => by fin_cases a <;> decide) (fun a => by fin_cases a <;> decide) _

/-- The payload of the arguments as launched. -/
abbrev result (c : Dev nD) : S8x2048x4096.Idx → EReal :=
  k0_pay1 (F := Ideal) (m ((c : Thread nD τ).loc main_arg0)) (m ((c : Thread nD τ).loc main_arg2))
    (m ((c : Thread nD τ).loc main_arg1)) (m ((c : Thread nD τ).loc main_arg3)) (m ((c : Thread nD τ).loc main_arg4))

/-- The result array after the run holds the payload of the arguments. -/
theorem final (c : Dev nD) : (dats m 0 c).arrAt 5 cfg0.N = result m c := by
  have ho := final_out m c
  have hz : (fun a => (win0_5.index t₀) a * main_v0.ty.shape.size a) = fun _ => 0 :=
    funext fun a => by fin_cases a <;> decide
  have hr := fun f => Memref.read_access_unit_zero (Elt Ideal) main_v0 hz (fun a => by fin_cases a <;> decide) f
  rw [hr] at ho
  rw [ho]
  show (cfg0.win 5).cut _ ((dats m 0 c).after 5 t₀) = _
  rw [after0_5, out_eq, block_x, block_xs, block_w, block_ws, block_r]
  rfl

/-- The run: the result is the payload of the arguments, and the arguments end unchanged. -/
theorem run : θ_run (defs (F := Ideal)) (onTc (τ := τ) (main (F := Ideal))) ⟨m, fun _ => 0, ρ⟩ (fun r => ∀ c : Dev nD,
    r.2.mem ((c.tc : Thread nD τ).loc main_v0) = result m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun r h c => ⟨((h.1 c).1 5).trans (final m c), h.2 c⟩)
    (θ_run_and (run_main m ρ) (unchanged m ρ))

end Cert.Proof.ReferenceRun

end
-- ==== Proof.Equation.lean ====
/-
  The two formulas agree: the kernel's, over the flattened arrays, and the reference's, over the arrays as given.
-/
module

public import proofs.«01_k».proof.Proof.Blocks

@[expose] public section

noncomputable section

namespace Cert.Proof.Equation

open Idealize.ShloMosaic Cert.KernelIdeal Cert.KernelIdeal.Gen

/-- Row `q` of batch `p` in a flattened array. -/
def at_ (p : Fin 8) (q : Fin 2048) : Fin 16384 := ⟨p.val * 2048 + q.val, by have := p.isLt; have := q.isLt; omega⟩

/-- Flattened `x` at the row of `p` and `q` is `x` at `p` and `q`. -/
theorem flat_x (x : S8x2048x14336.Idx → EReal) (p : Fin 8) (q : Fin 2048) (k : Fin 14336) :
    shapeCast S16384x14336 x shapeCasts_S8x2048x14336_S16384x14336 (ix2 (at_ p q) k) = x (ix3 p q k) :=
  shapeCast_apply _ _ _ _ (by rw [Shape.rowMajor_val_three, Shape.rowMajor_val_two]; rfl)

/-- The flattened rows' scales at the row of `p` and `q` are the scale of `p` and `q`. -/
theorem flat_xs (xs : S8x2048x1.Idx → EReal) (p : Fin 8) (q : Fin 2048) :
    shapeCast S16384x1 xs shapeCasts_S8x2048x1_S16384x1 (ix2 (at_ p q) (0 : Fin 1)) = xs (ix3 p q (0 : Fin 1)) :=
  shapeCast_apply _ _ _ _ (by rw [Shape.rowMajor_val_three, Shape.rowMajor_val_two]; rfl)

/-- The columns' scales as one row, at column `b`, are the scale of `b`. -/
theorem flat_ws (ws : S4096.Idx → EReal) (b : Fin 4096) :
    shapeCast S1x4096 ws shapeCasts_S4096_S1x4096 (ix2 (0 : Fin 1) b) = ws (ix1 b) :=
  shapeCast_apply _ _ _ _ (by
    rw [Shape.rowMajor_val_one, Shape.rowMajor_val_two]
    show b.val = 0 * 4096 + b.val
    omega)

/-- The flattened residual at the row of `p` and `q` is the residual at `p` and `q`. -/
theorem flat_r (r : S8x2048x4096.Idx → EReal) (p : Fin 8) (q : Fin 2048) (b : Fin 4096) :
    shapeCast S16384x4096 r shapeCasts_S8x2048x4096_S16384x4096 (ix2 (at_ p q) b) = r (ix3 p q b) :=
  shapeCast_apply _ _ _ _ (by rw [Shape.rowMajor_val_three, Shape.rowMajor_val_two]; rfl)

/-- An array with its first axis split, at `p` and `q`, is the array at the row of `p` and `q`. -/
theorem split_y (y : S16384x4096.Idx → EReal) (p : Fin 8) (q : Fin 2048) (b : Fin 4096) :
    shapeCast S8x2048x4096 y shapeCasts_S16384x4096_S8x2048x4096 (ix3 p q b) = y (ix2 (at_ p q) b) :=
  shapeCast_apply _ _ _ _ (by rw [Shape.rowMajor_val_three, Shape.rowMajor_val_two]; rfl)

/-- The kernel's formula over the flattened arrays, its first axis split again, is the reference's payload. -/
theorem eq (x : S8x2048x14336.Idx → EReal) (xs : S8x2048x1.Idx → EReal) (w : S14336x4096.Idx → EReal) (ws : S4096.Idx → EReal)
    (r : S8x2048x4096.Idx → EReal) :
    shapeCast S8x2048x4096
        (fun i : S16384x4096.Idx => Blocks.flat (shapeCast S16384x14336 x shapeCasts_S8x2048x14336_S16384x14336)
          (shapeCast S16384x1 xs shapeCasts_S8x2048x1_S16384x1) w (shapeCast S1x4096 ws shapeCasts_S4096_S1x4096)
          (shapeCast S16384x4096 r shapeCasts_S8x2048x4096_S16384x4096) (i 0) (i 1))
        shapeCasts_S16384x4096_S8x2048x4096
      = Cert.ReferenceIdeal.Gen.k0_pay1 (F := Ideal) x w xs ws r := by
  funext i
  obtain ⟨p, q, b, rfl⟩ : ∃ (p : Fin 8) (q : Fin 2048) (b : Fin 4096), i = ix3 p q b := ⟨i 0, i 1, i 2, (ix3_eta i).symm⟩
  rw [split_y, Formula.reference_pay]
  show Blocks.flat _ _ w _ _ (at_ p q) b = _
  rw [Blocks.flat, flat_xs, flat_ws, flat_r]
  simp only [flat_x]

end Cert.Proof.Equation

end
-- ==== Proof.lean ====
/-
  The proof of `Cert.Claim`. The three frames are the generated ones. The algebraic claim joins the kernel's run
  (Proof/KernelRun.lean), the reference's run (Proof/ReferenceRun.lean) and the equation between their results
  (Proof/Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.ReferenceRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- From memories that agree on the five arguments, the kernel's array and the reference's are one array. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    ReferenceRun.result m' c = shapeCast Cert.KernelIdeal.S8x2048x4096 (Blocks.result m c)
      Cert.KernelIdeal.Gen.shapeCasts_S16384x4096_S8x2048x4096 := by
  unfold ReferenceRun.result Blocks.result
  rw [h0, h1, h2, h3, h4, KernelRun.entry_x, KernelRun.entry_xs, KernelRun.entry_ws, KernelRun.entry_r,
    Cert.KernelIdeal.Gen.V_main_arg2]
  exact (Equation.eq _ _ _ _ _).symm

/-- The idealized kernel and the idealized reference, from memories that agree on the arguments, end with one result and
    their arguments unchanged. -/
theorem algebraic : Cert.algebraic_KernelIdeal_ReferenceIdeal := by
  intro m ρ m' ρ' _ hagree
  refine ⟨fun c => shapeCast Cert.KernelIdeal.S8x2048x4096 (Blocks.result m c)
    Cert.KernelIdeal.Gen.shapeCasts_S16384x4096_S8x2048x4096, KernelRun.run m ρ, ?_⟩
  refine (θ_run _ _ _).mono (fun r h c => ⟨(h c).1.trans ?_, (h c).2⟩) (ReferenceRun.run m' ρ')
  obtain ⟨h0, h1, h2, h3, h4⟩ := hagree c
  exact results_eq m m' c h0 h1 h2 h3 h4

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
